-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e_scale" .f32 0x3DB8AA3B#32 (((16 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x256x128x512 : Shape := ⟨4, ![2, 256, 128, 512]⟩
abbrev S2x3x3 : Shape := ⟨3, ![2, 3, 3]⟩
abbrev S2x4x4 : Shape := ⟨3, ![2, 4, 4]⟩
abbrev S_ : Shape := ⟨0, ![]⟩

class Facts : Prop where
  bcast_S_S2x256x128x512 : S_.BroadcastsInDim S2x256x128x512 (![] : Fin 0 → Fin S2x256x128x512.rank)

variable [Facts]

def fn {F : FTy → Type} [FloatOps F] (main_arg0 : FVec F S2x256x128x512 .f32) (main_arg1 : FVec F S2x256x128x512 .f32) (main_arg2 : FVec F S2x3x3 .f32) (main_arg3 : FVec F S2x3x3 .f32) (main_arg4 : FVec F S2x4x4 .f32) (main_arg5 : FVec F S2x4x4 .f32) : IVec S2x256x128x512 1 :=
  let main_v0 : FVec F S2x256x128x512 .f32 := Host.absf main_arg0
  let main_cst : FVec F S_ .f32 := constant S_ .f32 0x7F800000#32
  let main_v1 : FVec F S2x256x128x512 .f32 := broadcastInDim S2x256x128x512 ![] bcast_S_S2x256x128x512 main_cst
  let main_v2 : IVec S2x256x128x512 1 := cmpf .olt main_v0 main_v1
  let main_v3 : FVec F S2x256x128x512 .f32 := Host.absf main_arg1
  let main_cst_0 : FVec F S_ .f32 := constant S_ .f32 0x7F800000#32
  let main_v4 : FVec F S2x256x128x512 .f32 := broadcastInDim S2x256x128x512 ![] bcast_S_S2x256x128x512 main_cst_0
  let main_v5 : IVec S2x256x128x512 1 := cmpf .olt main_v3 main_v4
  let main_v6 : IVec S2x256x128x512 1 := andi main_v2 main_v5
  main_v6
-- ==== Kernel.lean ====
abbrev S2x256x128x512 : Shape := ⟨4, ![2, 256, 128, 512]⟩
abbrev S2x3x3 : Shape := ⟨3, ![2, 3, 3]⟩
abbrev S2x4x4 : Shape := ⟨3, ![2, 4, 4]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S2x1x1 : Shape := ⟨3, ![2, 1, 1]⟩
abbrev S2 : Shape := ⟨1, ![2]⟩
abbrev S2x3x1 : Shape := ⟨3, ![2, 3, 1]⟩
abbrev S2x3 : Shape := ⟨2, ![2, 3]⟩
abbrev S_ : Shape := ⟨0, ![]⟩
abbrev S2x128x1x512 : Shape := ⟨4, ![2, 128, 1, 512]⟩
abbrev S1x256x8x512 : Shape := ⟨4, ![1, 256, 8, 512]⟩
abbrev S1x1x1 : Shape := ⟨3, ![1, 1, 1]⟩
abbrev S1x8x1x512 : Shape := ⟨4, ![1, 8, 1, 512]⟩
abbrev S8x256x512 : Shape := ⟨3, ![8, 256, 512]⟩
abbrev S256x8x512 : Shape := ⟨3, ![256, 8, 512]⟩
abbrev S1x256x512 : Shape := ⟨3, ![1, 256, 512]⟩
abbrev S256x512 : Shape := ⟨2, ![256, 512]⟩
abbrev S1x1x1x512 : Shape := ⟨4, ![1, 1, 1, 512]⟩
abbrev S2x1x128x512 : Shape := ⟨4, ![2, 1, 128, 512]⟩

abbrev nBuf : Space → Nat
  | .hbm => 33
  | .vmem => 11
  | .smem => 2
  | _ => 0

abbrev bufTy : (tb : Table) → Fin (tcTables nBuf tb) → BufTy
  | .hbm, ⟨0, _⟩ => ⟨S2x256x128x512, .f32⟩
  | .hbm, ⟨1, _⟩ => ⟨S2x256x128x512, .f32⟩
  | .hbm, ⟨2, _⟩ => ⟨S2x3x3, .f32⟩
  | .hbm, ⟨3, _⟩ => ⟨S2x3x3, .f32⟩
  | .hbm, ⟨4, _⟩ => ⟨S2x4x4, .f32⟩
  | .hbm, ⟨5, _⟩ => ⟨S2x4x4, .f32⟩
  | .hbm, ⟨6, _⟩ => ⟨S512, .f32⟩
  | .hbm, ⟨7, _⟩ => ⟨S512x1, .f32⟩
  | .hbm, ⟨8, _⟩ => ⟨S1x512, .f32⟩
  | .hbm, ⟨9, _⟩ => ⟨S512x512, .f32⟩
  | .hbm, ⟨10, _⟩ => ⟨S512x512, .f32⟩
  | .hbm, ⟨11, _⟩ => ⟨S512x512, .i1⟩
  | .hbm, ⟨12, _⟩ => ⟨S512x512, .f32⟩
  | .hbm, ⟨13, _⟩ => ⟨S512x1, .f32⟩
  | .hbm, ⟨14, _⟩ => ⟨S512x512, .f32⟩
  | .hbm, ⟨15, _⟩ => ⟨S512x512, .f32⟩
  | .hbm, ⟨16, _⟩ => ⟨S2x1x1, .f32⟩
  | .hbm, ⟨17, _⟩ => ⟨S2, .f32⟩
  | .hbm, ⟨18, _⟩ => ⟨S2x3x1, .f32⟩
  | .hbm, ⟨19, _⟩ => ⟨S2x3, .f32⟩
  | .hbm, ⟨20, _⟩ => ⟨S2x3x1, .f32⟩
  | .hbm, ⟨21, _⟩ => ⟨S2x3, .f32⟩
  | .hbm, ⟨22, _⟩ => ⟨S2x3, .f32⟩
  | .hbm, ⟨23, _⟩ => ⟨S2x3, .f32⟩
  | .hbm, ⟨24, _⟩ => ⟨S_, .f32⟩
  | .hbm, ⟨25, _⟩ => ⟨S2, .f32⟩
  | .hbm, ⟨26, _⟩ => ⟨S2, .f32⟩
  | .hbm, ⟨27, _⟩ => ⟨S2, .f32⟩
  | .hbm, ⟨28, _⟩ => ⟨S2x1x1, .f32⟩
  | .hbm, ⟨29, _⟩ => ⟨S2x128x1x512, .f32⟩
  | .hbm, ⟨30, _⟩ => ⟨S2x128x1x512, .f32⟩
  | .hbm, ⟨31, _⟩ => ⟨S2x1x128x512, .f32⟩
  | .hbm, ⟨32, _⟩ => ⟨S2x1x128x512, .f32⟩
  | .local _ .vmem, ⟨0, _⟩ => ⟨S1x256x8x512, .f32⟩
  | .local _ .vmem, ⟨1, _⟩ => ⟨S1x256x8x512, .f32⟩
  | .local _ .vmem, ⟨2, _⟩ => ⟨S1x256x8x512, .f32⟩
  | .local _ .vmem, ⟨3, _⟩ => ⟨S1x256x8x512, .f32⟩
  | .local _ .vmem, ⟨4, _⟩ => ⟨S512x512, .f32⟩
  | .local _ .vmem, ⟨5, _⟩ => ⟨S1x8x1x512, .f32⟩
  | .local _ .vmem, ⟨6, _⟩ => ⟨S1x8x1x512, .f32⟩
  | .local _ .vmem, ⟨7, _⟩ => ⟨S1x8x1x512, .f32⟩
  | .local _ .vmem, ⟨8, _⟩ => ⟨S1x8x1x512, .f32⟩
  | .local _ .vmem, ⟨9, _⟩ => ⟨S8x256x512, .bf16⟩
  | .local _ .vmem, ⟨10, _⟩ => ⟨S8x256x512, .bf16⟩
  | .local _ .smem, ⟨0, _⟩ => ⟨S1x1x1, .f32⟩
  | .local _ .smem, ⟨1, _⟩ => ⟨S1x1x1, .f32⟩
  | _, _ => ⟨S2x256x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg3_0 : Ref sig .tc := ⟨.smem, 0, rfl⟩
abbrev cc0_stg3_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .smem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e_scale" => some (((16 * (Real.log 2))⁻¹ : ℝ) : EReal)
  | _ => none
-- ==== ReferenceIdeal.lean ====
abbrev S2x256x128x512 : Shape := ⟨4, ![2, 256, 128, 512]⟩
abbrev S2x3x3 : Shape := ⟨3, ![2, 3, 3]⟩
abbrev S2x4x4 : Shape := ⟨3, ![2, 4, 4]⟩
abbrev S2x128x512x512 : Shape := ⟨4, ![2, 128, 512, 512]⟩
abbrev S_ : Shape := ⟨0, ![]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S2x128x512 : Shape := ⟨3, ![2, 128, 512]⟩
abbrev S2x128x512x1 : Shape := ⟨4, ![2, 128, 512, 1]⟩
abbrev S1x1x512x512 : Shape := ⟨4, ![1, 1, 512, 512]⟩
abbrev S1x1x1x512 : Shape := ⟨4, ![1, 1, 1, 512]⟩
abbrev S2x1x128x512 : Shape := ⟨4, ![2, 1, 128, 512]⟩
abbrev S2x1x1 : Shape := ⟨3, ![2, 1, 1]⟩
abbrev S2 : Shape := ⟨1, ![2]⟩
abbrev S2x1x1x1 : Shape := ⟨4, ![2, 1, 1, 1]⟩
abbrev S2x3x1 : Shape := ⟨3, ![2, 3, 1]⟩
abbrev S2x3 : Shape := ⟨2, ![2, 3]⟩

abbrev nBuf : Space → Nat
  | .hbm => 73
  | .vmem => 0
  | .smem => 0
  | _ => 0

abbrev bufTy : (tb : Table) → Fin (tcTables nBuf tb) → BufTy
  | .hbm, ⟨0, _⟩ => ⟨S2x256x128x512, .f32⟩
  | .hbm, ⟨1, _⟩ => ⟨S2x256x128x512, .f32⟩
  | .hbm, ⟨2, _⟩ => ⟨S2x3x3, .f32⟩
  | .hbm, ⟨3, _⟩ => ⟨S2x3x3, .f32⟩
  | .hbm, ⟨4, _⟩ => ⟨S2x4x4, .f32⟩
  | .hbm, ⟨5, _⟩ => ⟨S2x4x4, .f32⟩
  | .hbm, ⟨6, _⟩ => ⟨S2x128x512x512, .f32⟩
  | .hbm, ⟨7, _⟩ => ⟨S_, .f32⟩
  | .hbm, ⟨8, _⟩ => ⟨S2x128x512x512, .f32⟩
  | .hbm, ⟨9, _⟩ => ⟨S2x128x512x512, .f32⟩
  | .hbm, ⟨10, _⟩ => ⟨S512, .f32⟩
  | .hbm, ⟨11, _⟩ => ⟨S1x512, .f32⟩
  | .hbm, ⟨12, _⟩ => ⟨S512x1, .f32⟩
  | .hbm, ⟨13, _⟩ => ⟨S512x512, .f32⟩
  | .hbm, ⟨14, _⟩ => ⟨S512x512, .f32⟩
  | .hbm, ⟨15, _⟩ => ⟨S512x512, .i1⟩
  | .hbm, ⟨16, _⟩ => ⟨S512x512, .f32⟩
  | .hbm, ⟨17, _⟩ => ⟨S_, .f32⟩
  | .hbm, ⟨18, _⟩ => ⟨S2x128x512x512, .f32⟩
  | .hbm, ⟨19, _⟩ => ⟨S2x128x512x512, .f32⟩
  | .hbm, ⟨20, _⟩ => ⟨S_, .f32⟩
  | .hbm, ⟨21, _⟩ => ⟨S2x128x512, .f32⟩
  | .hbm, ⟨22, _⟩ => ⟨S_, .f32⟩
  | .hbm, ⟨23, _⟩ => ⟨S2x128x512, .f32⟩
  | .hbm, ⟨24, _⟩ => ⟨S2x128x512, .f32⟩
  | .hbm, ⟨25, _⟩ => ⟨S2x128x512x1, .f32⟩
  | .hbm, ⟨26, _⟩ => ⟨S2x128x512x512, .f32⟩
  | .hbm, ⟨27, _⟩ => ⟨S2x128x512x512, .f32⟩
  | .hbm, ⟨28, _⟩ => ⟨S2x128x512x512, .f32⟩
  | .hbm, ⟨29, _⟩ => ⟨S_, .f32⟩
  | .hbm, ⟨30, _⟩ => ⟨S2x128x512, .f32⟩
  | .hbm, ⟨31, _⟩ => ⟨S2x128x512x1, .f32⟩
  | .hbm, ⟨32, _⟩ => ⟨S2x128x512x512, .f32⟩
  | .hbm, ⟨33, _⟩ => ⟨S2x128x512x512, .f32⟩
  | .hbm, ⟨34, _⟩ => ⟨S1x1x512x512, .f32⟩
  | .hbm, ⟨35, _⟩ => ⟨S2x128x512x512, .f32⟩
  | .hbm, ⟨36, _⟩ => ⟨S2x128x512x512, .f32⟩
  | .hbm, ⟨37, _⟩ => ⟨S1x1x1x512, .f32⟩
  | .hbm, ⟨38, _⟩ => ⟨S2x128x512x512, .f32⟩
  | .hbm, ⟨39, _⟩ => ⟨S2x128x512x512, .f32⟩
  | .hbm, ⟨40, _⟩ => ⟨S_, .f32⟩
  | .hbm, ⟨41, _⟩ => ⟨S2x128x512, .f32⟩
  | .hbm, ⟨42, _⟩ => ⟨S2x1x128x512, .f32⟩
  | .hbm, ⟨43, _⟩ => ⟨S_, .f32⟩
  | .hbm, ⟨44, _⟩ => ⟨S2x128x512, .f32⟩
  | .hbm, ⟨45, _⟩ => ⟨S2x1x128x512, .f32⟩
  | .hbm, ⟨46, _⟩ => ⟨S1x1x1x512, .f32⟩
  | .hbm, ⟨47, _⟩ => ⟨S2x1x128x512, .f32⟩
  | .hbm, ⟨48, _⟩ => ⟨S2x1x128x512, .f32⟩
  | .hbm, ⟨49, _⟩ => ⟨S2x1x128x512, .f32⟩
  | .hbm, ⟨50, _⟩ => ⟨S_, .f32⟩
  | .hbm, ⟨51, _⟩ => ⟨S2x1x128x512, .f32⟩
  | .hbm, ⟨52, _⟩ => ⟨S2x1x128x512, .f32⟩
  | .hbm, ⟨53, _⟩ => ⟨S_, .f32⟩
  | .hbm, ⟨54, _⟩ => ⟨S_, .f32⟩
  | .hbm, ⟨55, _⟩ => ⟨S2x1x128x512, .f32⟩
  | .hbm, ⟨56, _⟩ => ⟨S2x1x128x512, .f32⟩
  | .hbm, ⟨57, _⟩ => ⟨S2x1x1, .f32⟩
  | .hbm, ⟨58, _⟩ => ⟨S2, .f32⟩
  | .hbm, ⟨59, _⟩ => ⟨S2x1x1x1, .f32⟩
  | .hbm, ⟨60, _⟩ => ⟨S2x3x1, .f32⟩
  | .hbm, ⟨61, _⟩ => ⟨S2x3, .f32⟩
  | .hbm, ⟨62, _⟩ => ⟨S2x3x1, .f32⟩
  | .hbm, ⟨63, _⟩ => ⟨S2x3, .f32⟩
  | .hbm, ⟨64, _⟩ => ⟨S2x3, .f32⟩
  | .hbm, ⟨65, _⟩ => ⟨S2x3, .f32⟩
  | .hbm, ⟨66, _⟩ => ⟨S_, .f32⟩
  | .hbm, ⟨67, _⟩ => ⟨S2, .f32⟩
  | .hbm, ⟨68, _⟩ => ⟨S2, .f32⟩
  | .hbm, ⟨69, _⟩ => ⟨S2x1x1x1, .f32⟩
  | .hbm, ⟨70, _⟩ => ⟨S2x1x1x1, .f32⟩
  | .hbm, ⟨71, _⟩ => ⟨S2x1x128x512, .f32⟩
  | .hbm, ⟨72, _⟩ => ⟨S2x1x128x512, .f32⟩
  | _, _ => ⟨S2x256x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_v0 : Ref sig .tc := ⟨.hbm, 65, rfl⟩
abbrev main_call1_cst : Ref sig .tc := ⟨.hbm, 66, rfl⟩
abbrev main_call1_v1 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Proof.Softmax.lean ====
/- The mathematics of one output element, apart from either program: a column of scores, its softmax taken with and
   without the greatest score subtracted, the expected disparity, the depth and the confidence. -/
module

public import Idealize.ShloMosaic.Lib.Claim
public import Idealize.ShloMosaic.Lib.Pointwise

@[expose] public section

noncomputable section

namespace Softmax

open Idealize.ShloMosaic

/-! ## The two programs' expressions for one element -/

/-- A position as the programs write it: the integer converted to a float. -/
def pos (n : ℕ) : EReal := FloatOps.sitofp (F := Ideal) FTy.f32 (BitVec.ofNat 32 n)

/-- The lower-triangle mask at row `v`, column `w`: one where `v ≤ w`, else zero. -/
def tri (v w : Fin 512) : EReal := FloatOps.uitofp (F := Ideal) FTy.f32 (BitVec.ofBool (decide (pos v ≤ pos w)))

/-- The depth as the kernel computes it from the weights `mw` and the exponentials `e` of one column. -/
def kerDepth (s : EReal) (mw e : Fin 512 → EReal) (w : Fin 512) : EReal :=
  Ideal.div s (max (FloatOps.absf (F := Ideal) (φ := FTy.f32)
      ((∑ v, e v * mw v) * Ideal.div 1 (∑ v, e v) - pos w) * Ideal.ofBits FTy.f32 0x3B000000#32)
    (Ideal.ofBits FTy.f32 0x3DCCCCCD#32))

/-- The confidence as the kernel computes it from the weights `mw` and the exponentials `e` of one column. -/
def kerConf (mw e : Fin 512 → EReal) : EReal :=
  max (Finset.fold max (Ideal.ofBits FTy.f32 0xFF800000#32) (fun v => if 0 < mw v then e v else 0) Finset.univ) (e 0)
    * Ideal.div 1 (∑ v, e v)

/-- The amount the reference subtracts from a column of scores: its greatest entry. -/
def top (t : Fin 512 → EReal) : EReal :=
  max (Ideal.ofBits FTy.f32 0xFF800000#32) (Finset.fold max (Ideal.ofBits FTy.f32 0xFF800000#32) t Finset.univ)

/-- The reference's softmax of a column of scores. -/
def prob (t : Fin 512 → EReal) (v : Fin 512) : EReal :=
  Ideal.div (Ideal.exp (t v - top t)) (∑ u, Ideal.exp (t u - top t))

/-- The depth as the reference computes it from a column of scores. -/
def refDepth (s : EReal) (t : Fin 512 → EReal) (w : Fin 512) : EReal :=
  Ideal.div s (max (Ideal.ofBits FTy.f32 0x3DCCCCCD#32)
    (Ideal.div (FloatOps.absf (F := Ideal) (φ := FTy.f32) ((∑ v, prob t v * tri v w * pos v) - pos w))
      (Ideal.ofBits FTy.f32 0x44000000#32)))

/-- The confidence as the reference computes it from a column of scores. -/
def refConf (t : Fin 512 → EReal) (w : Fin 512) : EReal :=
  Finset.fold max (Ideal.ofBits FTy.f32 0xFF800000#32) (fun v => prob t v * tri v w) Finset.univ

/-- The focal length times the length of the baseline between the two camera positions `p` and `q`. -/
def focal (f : EReal) (p q : Fin 3 → EReal) : EReal := f * Ideal.sqrt (∑ x, (p x - q x) * (p x - q x))

/-! ## The literals -/

/-- The bound below every value that both maxima start from. -/
theorem lit_bot : Ideal.ofBits FTy.f32 0xFF800000#32 = ⊥ := by simp [Ideal.ofBits, Ideal.ieee]

/-- The kernel's reciprocal of the width. -/
theorem lit_inv_width : Ideal.ofBits FTy.f32 0x3B000000#32 = ((1 / 512 : ℝ) : EReal) := by
  simp [Ideal.ofBits, Ideal.ieee, -EReal.coe_mul]; norm_num

/-- The reference's width. -/
theorem lit_width : Ideal.ofBits FTy.f32 0x44000000#32 = ((512 : ℝ) : EReal) := by
  simp [Ideal.ofBits, Ideal.ieee, -EReal.coe_mul]; norm_num

/-- The root of the number of channels, by which the reference divides the correlation. -/
theorem lit_sixteen : Ideal.ofBits FTy.f32 0x41800000#32 = ((16 : ℝ) : EReal) := by
  simp [Ideal.ofBits, Ideal.ieee, -EReal.coe_mul]; norm_num

/-- A position below 2³¹ is that number. -/
theorem pos_eq (n : ℕ) (h : n < 512) : pos n = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

/-- The mask as a real number. -/
def triR (v w : Fin 512) : ℝ := if v ≤ w then 1 else 0

/-- The mask is its real value. -/
theorem tri_eq (v w : Fin 512) : tri v w = (triR v w : EReal) := by
  show (((BitVec.ofBool (decide (pos v ≤ pos w))).toNat : ℝ) : EReal) = _
  rw [pos_eq _ v.isLt, pos_eq _ w.isLt, triR]
  by_cases h : v ≤ w
  · have h' : (v : ℕ) ≤ w := h
    simp [h, h']
  · have h' : ¬ (v : ℕ) ≤ w := h
    simp [h, h']

/-! ## Maxima of real columns -/

/-- A maximum over a column of reals is attained, and bounds every entry. -/
theorem fold_real (f : Fin 512 → ℝ) :
    ∃ M : ℝ, Finset.fold max (⊥ : EReal) (fun v => (f v : EReal)) Finset.univ = (M : EReal)
      ∧ (∃ v, f v = M) ∧ ∀ v, f v ≤ M := by
  obtain ⟨v, -, hv⟩ := Finset.exists_max_image (Finset.univ : Finset (Fin 512)) f ⟨0, Finset.mem_univ _⟩
  refine ⟨f v, le_antisymm ?_ ?_, ⟨v, rfl⟩, fun u => hv u (Finset.mem_univ _)⟩
  · exact Finset.fold_max_le _ |>.mpr ⟨bot_le, fun u hu => by exact_mod_cast hv u hu⟩
  · exact Finset.le_fold_max _ |>.mpr (.inr ⟨v, Finset.mem_univ _, le_rfl⟩)

/-! ## Softmax with and without the shift -/

/-- A finite sum of reals is the real sum. -/
theorem sum_coe (f : Fin 512 → ℝ) : (∑ v, (f v : EReal)) = ((∑ v, f v : ℝ) : EReal) := by
  induction (Finset.univ : Finset (Fin 512)) using Finset.cons_induction with
  | empty => simp
  | cons a s ha ih => rw [Finset.sum_cons, Finset.sum_cons, ih, EReal.coe_add]

/-- The sum of a column's exponentials. -/
def den (t : Fin 512 → ℝ) : ℝ := ∑ v, Real.exp (t v)

/-- It is positive. -/
theorem den_pos (t : Fin 512 → ℝ) : 0 < den t :=
  Finset.sum_pos (fun _ _ => Real.exp_pos _) ⟨0, Finset.mem_univ _⟩

/-- The reference's softmax of a column of reals: the shift cancels. -/
theorem prob_real (t : Fin 512 → ℝ) (v : Fin 512) :
    prob (fun u => (t u : EReal)) v = ((Real.exp (t v) * (1 / den t) : ℝ) : EReal) := by
  obtain ⟨M, hM, -, -⟩ := fold_real t
  have htop : top (fun u => (t u : EReal)) = (M : EReal) := by
    rw [top, lit_bot, hM]; exact max_eq_right bot_le
  have hexp : ∀ u, Ideal.exp ((t u : EReal) - (M : EReal)) = ((Real.exp (t u) * Real.exp (-M) : ℝ) : EReal) := fun u => by
    rw [← EReal.coe_sub, Ideal.exp_coe, sub_eq_add_neg, Real.exp_add]
  have hd := den_pos t
  have hM0 := Real.exp_pos (-M)
  rw [prob, htop, hexp, Finset.sum_congr rfl fun u _ => hexp u, sum_coe, ← Finset.sum_mul]
  change Ideal.div _ ((den t * Real.exp (-M) : ℝ) : EReal) = _
  rw [Ideal.div_coe (mul_pos hd hM0).ne', ← EReal.coe_mul]
  congr 1
  field_simp

/-- The kernel's reciprocal of a real column's sum of exponentials. -/
theorem inv_real (t : Fin 512 → ℝ) :
    Ideal.div 1 (∑ v, ((Real.exp (t v) : ℝ) : EReal)) = ((1 / den t : ℝ) : EReal) := by
  rw [sum_coe]
  change Ideal.div 1 ((den t : ℝ) : EReal) = _
  rw [Ideal.div_coe (den_pos t).ne', one_mul]

/-- The two depths agree on a column of real scores. -/
theorem depth_eq (s : EReal) (t : Fin 512 → ℝ) (w : Fin 512) :
    kerDepth s (fun v => tri v w * pos v) (fun v => ((Real.exp (t v) : ℝ) : EReal)) w
      = refDepth s (fun v => (t v : EReal)) w := by
  have hk : (∑ v, ((Real.exp (t v) : ℝ) : EReal) * (tri v w * pos v)) * Ideal.div 1 (∑ v, ((Real.exp (t v) : ℝ) : EReal))
      = ∑ v, prob (fun v => (t v : EReal)) v * tri v w * pos v := by
    rw [inv_real]
    simp only [prob_real, tri_eq, fun v : Fin 512 => pos_eq _ v.isLt, ← EReal.coe_mul, sum_coe]
    rw [Finset.sum_mul]
    congr 1
    exact Finset.sum_congr rfl fun v _ => by ring
  rw [kerDepth, refDepth, hk, lit_inv_width, lit_width, Ideal.div_coe (by norm_num), max_comm]

/-- The kernel keeps row `v` of column `w` beside row zero exactly when the weight is positive. -/
theorem weight_pos (v w : Fin 512) : 0 < triR v w * ((v : ℕ) : ℝ) ↔ v ≤ w ∧ (v : ℕ) ≠ 0 := by
  by_cases h : v ≤ w
  · simp [triR, h, Nat.pos_iff_ne_zero]
  · simp [triR, h]

/-- The two confidences agree on a column of real scores. -/
theorem conf_eq (t : Fin 512 → ℝ) (w : Fin 512) :
    kerConf (fun v => tri v w * pos v) (fun v => ((Real.exp (t v) : ℝ) : EReal))
      = refConf (fun v => (t v : EReal)) w := by
  have hd : 0 < 1 / den t := one_div_pos.mpr (den_pos t)
  have hsel : ∀ v : Fin 512, (if (0 : EReal) < tri v w * pos v then ((Real.exp (t v) : ℝ) : EReal) else 0)
      = ((if 0 < triR v w * ((v : ℕ) : ℝ) then Real.exp (t v) else 0 : ℝ) : EReal) := fun v => by
    rw [tri_eq, pos_eq _ v.isLt, ← EReal.coe_mul]
    by_cases h : 0 < triR v w * ((v : ℕ) : ℝ)
    · rw [if_pos h, if_pos (by exact_mod_cast h)]
    · rw [if_neg h, if_neg (by exact_mod_cast h), EReal.coe_zero]
  obtain ⟨K, hK, ⟨a, ha⟩, hKle⟩ := fold_real fun v => if 0 < triR v w * ((v : ℕ) : ℝ) then Real.exp (t v) else 0
  obtain ⟨R, hR, ⟨b, hb⟩, hRle⟩ := fold_real fun v => Real.exp (t v) * (1 / den t) * triR v w
  simp only [kerConf, refConf, hsel, lit_bot, inv_real, hK]
  simp only [prob_real, tri_eq, ← EReal.coe_mul, hR]
  rw [← EReal.coe_strictMono.monotone.map_max, ← EReal.coe_mul]
  congr 1
  have h0 : triR 0 w = 1 := by simp [triR]
  have hR0 := hRle 0
  rw [h0, mul_one] at hR0
  refine le_antisymm ?_ ?_
  · rw [max_mul_of_nonneg _ _ hd.le]
    refine max_le ?_ hR0
    rw [← ha]
    by_cases h : 0 < triR a w * ((a : ℕ) : ℝ)
    · have := hRle a
      rw [if_pos h]
      rw [show triR a w = 1 by simp [triR, (weight_pos a w).mp h]] at this
      simpa using this
    · rw [if_neg h, zero_mul]
      exact (mul_pos (Real.exp_pos _) hd).le.trans hR0
  · rw [← hb]
    by_cases h : b ≤ w
    · rw [show triR b w = 1 by simp [triR, h], mul_one]
      refine mul_le_mul_of_nonneg_right ?_ hd.le
      by_cases hb0 : (b : ℕ) = 0
      · rw [show b = 0 from Fin.ext hb0]; exact le_max_right _ _
      · refine le_max_of_le_left ?_
        have := hKle b
        rwa [if_pos ((weight_pos b w).mpr ⟨h, hb0⟩)] at this
    · rw [show triR b w = 0 by simp [triR, h], mul_zero]
      exact mul_nonneg (le_max_of_le_right (Real.exp_pos _).le) hd.le

/-! ## The two exponentials of one correlation -/

/-- The reference's score at one row: the correlation over sixteen, over the temperature one. -/
def score (a : Fin 256 → EReal) (b : Fin 256 → EReal) : EReal :=
  Ideal.div (Ideal.div (∑ k, a k * b k) (Ideal.ofBits FTy.f32 0x41800000#32)) 1

/-- The kernel's exponential at one row: base two, the left feature scaled by `(16 · log 2)⁻¹`. -/
def pow2 (a : Fin 256 → EReal) (b : Fin 256 → EReal) : EReal :=
  Ideal.exp2 (∑ k, b k * (a k * (((16 * Real.log 2)⁻¹ : ℝ) : EReal)))

/-- A finite sum of real channels is the real sum. -/
theorem sum_coe_channels (f : Fin 256 → ℝ) : (∑ k, (f k : EReal)) = ((∑ k, f k : ℝ) : EReal) := by
  induction (Finset.univ : Finset (Fin 256)) using Finset.cons_induction with
  | empty => simp
  | cons a s ha ih => rw [Finset.sum_cons, Finset.sum_cons, ih, EReal.coe_add]

/-- On real features the score is the real correlation over sixteen. -/
theorem score_real (a b : Fin 256 → ℝ) :
    score (fun k => (a k : EReal)) (fun k => (b k : EReal)) = (((∑ k, a k * b k) / 16 : ℝ) : EReal) := by
  simp only [score, lit_sixteen, ← EReal.coe_mul, sum_coe_channels]
  rw [Ideal.div_coe (by norm_num), ← EReal.coe_one, Ideal.div_coe one_ne_zero, ← EReal.coe_mul, ← EReal.coe_mul]
  congr 1
  ring

/-- On real features the kernel's power of two is the exponential of the score. -/
theorem pow2_real (a b : Fin 256 → ℝ) :
    pow2 (fun k => (a k : EReal)) (fun k => (b k : EReal)) = ((Real.exp ((∑ k, a k * b k) / 16) : ℝ) : EReal) := by
  have hlog : Real.log 2 ≠ 0 := (Real.log_pos one_lt_two).ne'
  simp only [pow2, ← EReal.coe_mul, sum_coe_channels]
  rw [Ideal.exp2_coe]
  congr 1
  show (2 : ℝ) ^ (_ : ℝ) = _
  rw [Real.rpow_def_of_pos two_pos]
  congr 1
  rw [Finset.mul_sum, Finset.sum_div]
  refine Finset.sum_congr rfl fun k _ => ?_
  field_simp

/-- A column of finite features makes the two depths one number. -/
theorem depth_of_features (s : EReal) (a : Fin 256 → ℝ) (b : Fin 512 → Fin 256 → ℝ) (w : Fin 512) :
    kerDepth s (fun v => tri v w * pos v) (fun v => pow2 (fun k => (a k : EReal)) fun k => (b v k : EReal)) w
      = refDepth s (fun v => score (fun k => (a k : EReal)) fun k => (b v k : EReal)) w := by
  simp only [pow2_real, score_real]
  exact depth_eq s _ w

/-- A column of finite features makes the two confidences one number. -/
theorem conf_of_features (a : Fin 256 → ℝ) (b : Fin 512 → Fin 256 → ℝ) (w : Fin 512) :
    kerConf (fun v => tri v w * pos v) (fun v => pow2 (fun k => (a k : EReal)) fun k => (b v k : EReal))
      = refConf (fun v => score (fun k => (a k : EReal)) fun k => (b v k : EReal)) w := by
  simp only [pow2_real, score_real]
  exact conf_eq _ w

end Softmax

end
-- ==== Proof.Row.lean ====
/- One row of the kernel's block: what the body's two stored values are at an index, from the two feature rows, the weight
   table and the scale. -/
module

public import proofs.«01_k».proof.Proof.Gen.KernelIdeal.Frame
public import proofs.«01_k».proof.Proof.Softmax
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Row

open Cert.KernelIdeal Cert.KernelIdeal.Gen Idealize.ShloMosaic

/-- The kernel's named constant, as its real value. -/
theorem scale_const :
    Named.named (F := Ideal) κ "log2e_scale" (φ := .f32) 0x3DB8AA3B#32 = (((16 * Real.log 2)⁻¹ : ℝ) : EReal) :=
  IdealRules.named_const.ideal_named_scalar _ _ _ _ rfl

/-- The depth of one row, as the body computes it from the scratch rows `X` and `Y`. -/
def depthRow (s : Elt Ideal .f32) (M : Vec Ideal S512x512 .f32) (X Y : Vec Ideal S1x256x512 .bf16) :
    FVec Ideal S1x1x1x512 .f32 :=
  k0_pay8 s k0_pay1 (k0_pay2 M) (k0_pay5 X Y) (k0_pay6 X Y)

/-- The confidence of one row, as the body computes it from the scratch rows `X` and `Y`. -/
def confRow (M : Vec Ideal S512x512 .f32) (X Y : Vec Ideal S1x256x512 .bf16) : FVec Ideal S1x1x1x512 .f32 :=
  k0_pay9 (k0_pay2 M) (k0_pay5 X Y) (k0_pay6 X Y)

/-- The left scratch at an index: the left block with its row axis first, scaled. -/
theorem left_at (X : Vec Ideal S1x256x8x512 .f32) (j : S8x256x512.Idx) :
    k0_pay3 (F := Ideal) X j = (X (ix4 0 (j 1) (j 0) (j 2)) : EReal) * (((16 * Real.log 2)⁻¹ : ℝ) : EReal) := by
  pointwise [k0_pay3]
  rw [scale_const]

/-- The right scratch at an index: the right block with its row axis first. -/
theorem right_at (Y : Vec Ideal S1x256x8x512 .f32) (j : S8x256x512.Idx) :
    k0_pay4 (F := Ideal) Y j = Y (ix4 0 (j 1) (j 0) (j 2)) := by
  pointwise [k0_pay4]

/-- The exponentials at an index. -/
theorem exps_at (X Y : Vec Ideal S1x256x512 .bf16) (j : S512x512.Idx) :
    k0_pay5 (F := Ideal) X Y j
      = Ideal.exp2 (∑ k, (Y (ix3 0 k (j 0)) : EReal) * (X (ix3 0 k (j 1)) : EReal)) := by
  pointwise [k0_pay5]
  rfl

/-- The depth of one row at an index. -/
theorem depthRow_at (s : Elt Ideal .f32) (M : Vec Ideal S512x512 .f32) (X Y : Vec Ideal S1x256x512 .bf16) (j : S1x1x1x512.Idx) :
    depthRow s M X Y j
      = Softmax.kerDepth s (fun v => M (ix2 v (j 3)))
          (fun v => Ideal.exp2 (∑ k, (Y (ix3 0 k v) : EReal) * (X (ix3 0 k (j 3)) : EReal))) (j 3) := by
  have h : depthRow s M X Y j
      = Softmax.kerDepth s (fun v => M (ix2 v (j 3))) (fun v => k0_pay5 (F := Ideal) X Y (ix2 v (j 3))) (j 3) := by
    unfold depthRow k0_pay6
    generalize k0_pay5 (F := Ideal) X Y = E
    pointwise [k0_pay8, k0_pay1, k0_pay2, k0_pay7]
    rfl
  rw [h]
  simp only [exps_at]
  rfl

/-- The confidence of one row at an index. -/
theorem confRow_at (M : Vec Ideal S512x512 .f32) (X Y : Vec Ideal S1x256x512 .bf16) (j : S1x1x1x512.Idx) :
    confRow M X Y j
      = Softmax.kerConf (fun v => M (ix2 v (j 3)))
          (fun v => Ideal.exp2 (∑ k, (Y (ix3 0 k v) : EReal) * (X (ix3 0 k (j 3)) : EReal))) := by
  have h : confRow M X Y j
      = Softmax.kerConf (fun v => M (ix2 v (j 3))) (fun v => k0_pay5 (F := Ideal) X Y (ix2 v (j 3))) := by
    unfold confRow k0_pay6
    generalize k0_pay5 (F := Ideal) X Y = E
    pointwise [k0_pay9, k0_pay2, k0_pay7]
    rfl
  rw [h]
  simp only [exps_at]
  rfl

end Cert.KernelIdeal.Row

end
-- ==== Proof.Block.lean ====
/- What one grid point leaves in its two output blocks, at an index of the block. -/
module

public import proofs.«01_k».proof.Proof.Row
public import Idealize.ShloMosaic.Lib.Pipeline.ReadBack

@[expose] public section

set_option maxRecDepth 16384

noncomputable section

namespace Cert.KernelIdeal.Block

open Cert.KernelIdeal Cert.KernelIdeal.Gen Idealize.ShloMosaic Idealize.ShloMosaic.TcCoe Idealize.SL.Sem

/-- The depth of one row, from the staged blocks: the row `r` of both image blocks, at an index of the stored row. -/
theorem depthRow_block (s : Elt Ideal .f32) (M : Vec Ideal S512x512 .f32) (A B : Vec Ideal S1x256x8x512 .f32)
    (X Y : Vec Ideal S1x256x512 .bf16) (r : Fin 8)
    (hX : ∀ k w, (X (ix3 0 k w) : EReal) = k0_pay3 (F := Ideal) A (ix3 r k w))
    (hY : ∀ k w, (Y (ix3 0 k w) : EReal) = k0_pay4 (F := Ideal) B (ix3 r k w)) (j : S1x1x1x512.Idx) :
    Row.depthRow s M X Y j
      = Softmax.kerDepth s (fun v => M (ix2 v (j 3)))
          (fun v => Softmax.pow2 (fun k => A (ix4 0 k r (j 3))) (fun k => B (ix4 0 k r v))) (j 3) := by
  have hX' : ∀ k, (X (ix3 0 k (j 3)) : EReal) = k0_pay3 (F := Ideal) A (ix3 r k (j 3)) := fun k => hX k (j 3)
  rw [Row.depthRow_at]
  simp only [hX', hY, Row.left_at, Row.right_at]
  rfl

/-- The confidence of one row, from the staged blocks. -/
theorem confRow_block (M : Vec Ideal S512x512 .f32) (A B : Vec Ideal S1x256x8x512 .f32)
    (X Y : Vec Ideal S1x256x512 .bf16) (r : Fin 8)
    (hX : ∀ k w, (X (ix3 0 k w) : EReal) = k0_pay3 (F := Ideal) A (ix3 r k w))
    (hY : ∀ k w, (Y (ix3 0 k w) : EReal) = k0_pay4 (F := Ideal) B (ix3 r k w)) (j : S1x1x1x512.Idx) :
    Row.confRow M X Y j
      = Softmax.kerConf (fun v => M (ix2 v (j 3)))
          (fun v => Softmax.pow2 (fun k => A (ix4 0 k r (j 3))) (fun k => B (ix4 0 k r v))) := by
  have hX' : ∀ k, (X (ix3 0 k (j 3)) : EReal) = k0_pay3 (F := Ideal) A (ix3 r k (j 3)) := fun k => hX k (j 3)
  rw [Row.confRow_at]
  simp only [hX', hY, Row.left_at, Row.right_at]
  rfl

/-- The scale read through the body's load of one element. -/
theorem scale_ld (S : Vec Ideal S1x1x1 .f32) (h) (h') :
    View.ld S (Rect.unit (s := S1x1x1) ![0, 0, 0] ![1, 1, 1] h) (Shape.Idx.first h') = S (ix3 0 0 0) := by
  pointwise

variable (m : (ℓ : Loc nD τ sig) → Buf (Elt Ideal) ℓ)

/-- The depth block a grid point leaves. -/
theorem depth_block (c : Dev nD) (t : Fin cfg0.N) (y : S1x8x1x512.Idx) : (outsAt0 m c t).1 y =
    Softmax.kerDepth (iblk m c 3 t (ix3 0 0 0)) (fun v => iblk m c 2 t (ix2 v (y 3)))
      (fun v => Softmax.pow2 (fun k => iblk m c 1 t (ix4 0 k (y 1) (y 3))) (fun k => iblk m c 0 t (ix4 0 k (y 1) v))) (y 3) := by
  unfold outsAt0
  frame_open
  simp (disch := decide) only [↓ View.readCov_skip, ↓ View.readCov_cons_toLoadRect, ↓ View.readCov_fill]
  frame_out
  canon_tiles x h
  all_goals
    rw [show y 3 = x 3 from Fin.ext h3]
    refine (depthRow_block _ (iblk m c 2 t) (iblk m c 1 t) (iblk m c 0 t) _ _ (y 1) (fun k w => ?_) (fun k w => ?_) x).trans ?_
    · pointwise; blk_ext
    · pointwise; blk_ext
    · rw [scale_ld]

/-- The confidence block a grid point leaves. -/
theorem conf_block (c : Dev nD) (t : Fin cfg0.N) (y : S1x8x1x512.Idx) : (outsAt0 m c t).2 y =
    Softmax.kerConf (fun v => iblk m c 2 t (ix2 v (y 3)))
      (fun v => Softmax.pow2 (fun k => iblk m c 1 t (ix4 0 k (y 1) (y 3))) (fun k => iblk m c 0 t (ix4 0 k (y 1) v))) := by
  unfold outsAt0
  frame_open
  simp (disch := decide) only [↓ View.readCov_skip, ↓ View.readCov_cons_toLoadRect, ↓ View.readCov_fill]
  frame_out
  canon_tiles x h
  all_goals
    rw [show y 3 = x 3 from Fin.ext h3]
    refine (confRow_block (iblk m c 2 t) (iblk m c 1 t) (iblk m c 0 t) _ _ (y 1) (fun k w => ?_) (fun k w => ?_) x).trans rfl
    · pointwise; blk_ext
    · pointwise; blk_ext

end Cert.KernelIdeal.Block
end
-- ==== Proof.Arrays.lean ====
/- The blocks a grid point reads, as reads of the arguments, and the two arrays the region ends with. -/
module

public import proofs.«01_k».proof.Proof.Block

@[expose] public section

set_option maxRecDepth 16384

noncomputable section

namespace Cert.KernelIdeal.Arrays

open Cert.KernelIdeal Cert.KernelIdeal.Gen Idealize.ShloMosaic Idealize.ShloMosaic.TcCoe Idealize.SL.Sem

/-- The block each window stages at a grid point: the image of the batch, eight of its rows. -/
theorem idx : ∀ t : Fin cfg0.N, win0_0.index t = ![t.val / 16, 0, t.val % 16, 0]
    ∧ win0_1.index t = ![t.val / 16, 0, t.val % 16, 0] ∧ win0_2.index t = ![0, 0]
    ∧ win0_3.index t = ![t.val / 16, 0, 0] ∧ win0_4.index t = ![t.val / 16, t.val % 16, 0, 0]
    ∧ win0_5.index t = ![t.val / 16, t.val % 16, 0, 0] :=
  (by decide +kernel : ∀ t : Fin grid0.N, _)

variable (m : (ℓ : Loc nD τ sig) → Buf (Elt Ideal) ℓ) (c : Dev nD)

/-- The second image's block. -/
theorem second (t : Fin cfg0.N) (k : Fin 256) (r : Fin 8) (v : Fin 512) (b : Fin 2) (h : Fin 128)
    (hb : b.val = t.val / 16) (hh : h.val = t.val % 16 * 8 + r) :
    iblk m c 0 t (ix4 0 k r v) = m (c.tc.loc main_arg1) (ix4 b k h v) := by
  blk_ext [iblk, V_main_arg1, idx t, hb, hh]

/-- The first image's block. -/
theorem first (t : Fin cfg0.N) (k : Fin 256) (r : Fin 8) (v : Fin 512) (b : Fin 2) (h : Fin 128)
    (hb : b.val = t.val / 16) (hh : h.val = t.val % 16 * 8 + r) :
    iblk m c 1 t (ix4 0 k r v) = m (c.tc.loc main_arg0) (ix4 b k h v) := by
  blk_ext [iblk, V_main_arg0, idx t, hb, hh]

/-- The positions along the width. -/
def places : FVec Ideal S512 .f32 := sitofp .f32 (iotaInDim S512 32 0)

/-- The table on the region's entry: the mask times the positions. -/
theorem entry_table : V m c main_v9 = mulf (uitofp .f32 (cmpf .ole
      (broadcastInDim S512x512 ![0, 1] bcast_S512x1_S512x512_0_1 (broadcastInDim S512x1 ![0] bcast_S512_S512x1_0 places))
      (broadcastInDim S512x512 ![0, 1] bcast_S1x512_S512x512_0_1 (broadcastInDim S1x512 ![1] bcast_S512_S1x512_1 places))))
    (broadcastInDim S512x512 ![0, 1] bcast_S512x1_S512x512_0_1 (broadcastInDim S512x1 ![0] bcast_S512_S512x1_0 places)) := by
  unfold V V0
  simp only [hostOps0, hostOps0_1, hostOps0_2, StableHlo.TRef.binary, StableHlo.TRef.nullary, StableHlo.TRef.unary,
    StableHlo.TRef.toBuf, StableHlo.TRef.ofBuf, cast_eq, List.flatten_cons, List.flatten_nil, List.append_nil,
    List.cons_append, List.nil_append]
  after_results_simp <;> rfl

/-- The shift between the two cameras. -/
def moves (p q : FVec Ideal S2x4x4 .f32) : FVec Ideal S2x3 .f32 :=
  subf (shapeCast S2x3 (extractStridedSlice S2x3x1 ![0, 0, 3] p slices_S2x4x4_S2x3x1_0_0_3) shapeCasts_S2x3x1_S2x3)
    (shapeCast S2x3 (extractStridedSlice S2x3x1 ![0, 0, 3] q slices_S2x4x4_S2x3x1_0_0_3) shapeCasts_S2x3x1_S2x3)

/-- The scale on the region's entry. -/
theorem entry_scale : V m c main_v19 = shapeCast S2x1x1
    (mulf (shapeCast S2 (extractStridedSlice S2x1x1 ![0, 0, 0] (m (c.tc.loc main_arg2)) slices_S2x3x3_S2x1x1_0_0_0) shapeCasts_S2x1x1_S2)
      (Host.sqrt (Host.reduceAdd (mulf (moves (m (c.tc.loc main_arg4)) (m (c.tc.loc main_arg5))) (moves (m (c.tc.loc main_arg4)) (m (c.tc.loc main_arg5))))
        (constant S_ .f32 0x00000000#32) reducesTo_S2x3_S2_d1 h_S_)) : FVec Ideal S2 .f32) shapeCasts_S2_S2x1x1 := by
  unfold V V0
  simp only [hostOps0, hostOps0_1, hostOps0_2, StableHlo.TRef.binary, StableHlo.TRef.nullary, StableHlo.TRef.unary,
    StableHlo.TRef.toBuf, StableHlo.TRef.ofBuf, cast_eq, List.flatten_cons, List.flatten_nil, List.append_nil,
    List.cons_append, List.nil_append]
  after_results_simp <;> rfl

/-- The staged table: the position of a row, on and below the diagonal. -/
theorem table (t : Fin cfg0.N) (v w : Fin 512) :
    iblk m c 2 t (ix2 v w) = Softmax.tri v w * Softmax.pos v := by
  blk_simp [iblk, idx t]
  rw [show V m c (Pipeline.arrRef spec0 2) = _ from entry_table m c]
  have e : (win0_2.blk t).view.emb (ix2 v w) = ix2 v w := by blk_ext [idx t]
  rw [e]
  pointwise [places]
  rfl

/-- The staged scale: the focal length times the distance between the cameras. -/
theorem scale (t : Fin cfg0.N) (b : Fin 2) (hb : b.val = t.val / 16) :
    iblk m c 3 t (ix3 0 0 0) = Softmax.focal (m (c.tc.loc main_arg2) (ix3 b 0 0))
      (fun x => m (c.tc.loc main_arg4) (ix3 b ⟨x, by omega⟩ 3)) (fun x => m (c.tc.loc main_arg5) (ix3 b ⟨x, by omega⟩ 3)) := by
  blk_simp [iblk, idx t]
  rw [show V m c (Pipeline.arrRef spec0 3) = _ from entry_scale m c]
  have e : (win0_3.blk t).view.emb (ix3 0 0 0) = ix3 b 0 0 := by blk_ext [idx t, hb]
  rw [e]
  pointwise [moves]
  rfl

/-- The kernel's depth at a pixel of an image, from the arguments. -/
def depthAt (b : Fin 2) (h : Fin 128) (w : Fin 512) : EReal :=
  Softmax.kerDepth (Softmax.focal (m (c.tc.loc main_arg2) (ix3 b 0 0))
      (fun x => m (c.tc.loc main_arg4) (ix3 b ⟨x, by omega⟩ 3)) (fun x => m (c.tc.loc main_arg5) (ix3 b ⟨x, by omega⟩ 3)))
    (fun v => Softmax.tri v w * Softmax.pos v)
    (fun v => Softmax.pow2 (fun k => m (c.tc.loc main_arg0) (ix4 b k h w)) (fun k => m (c.tc.loc main_arg1) (ix4 b k h v))) w

/-- The kernel's confidence at a pixel of an image, from the arguments. -/
def confAt (b : Fin 2) (h : Fin 128) (w : Fin 512) : EReal :=
  Softmax.kerConf (fun v => Softmax.tri v w * Softmax.pos v)
    (fun v => Softmax.pow2 (fun k => m (c.tc.loc main_arg0) (ix4 b k h w)) (fun k => m (c.tc.loc main_arg1) (ix4 b k h v)))

/-- The weights of a column of a block, from the arguments. -/
theorem column (t : Fin cfg0.N) (r : Fin 8) (b : Fin 2) (h : Fin 128) (w : Fin 512)
    (hb : b.val = t.val / 16) (hh : h.val = t.val % 16 * 8 + r) :
    (fun v => Softmax.pow2 (fun k => iblk m c 1 t (ix4 0 k r w)) (fun k => iblk m c 0 t (ix4 0 k r v)))
      = fun v => Softmax.pow2 (fun k => m (c.tc.loc main_arg0) (ix4 b k h w)) (fun k => m (c.tc.loc main_arg1) (ix4 b k h v)) := by
  funext v
  simp only [first m c t _ r _ b h hb hh, second m c t _ r _ b h hb hh]

/-- The depth block of a grid point, from the arguments. -/
theorem depth_point (t : Fin cfg0.N) (y : S1x8x1x512.Idx) (b : Fin 2) (h : Fin 128) (w : Fin 512)
    (hb : b.val = t.val / 16) (hh : h.val = t.val % 16 * 8 + y 1) (hw : w.val = y 3) :
    (outsAt0 m c t).1 y = depthAt m c b h w := by
  obtain rfl : w = y 3 := Fin.ext hw
  rw [Block.depth_block, scale m c t b hb, column m c t (y 1) b h (y 3) hb hh]
  simp only [table m c t _ (y 3)]
  rfl

/-- The confidence block of a grid point, from the arguments. -/
theorem conf_point (t : Fin cfg0.N) (y : S1x8x1x512.Idx) (b : Fin 2) (h : Fin 128) (w : Fin 512)
    (hb : b.val = t.val / 16) (hh : h.val = t.val % 16 * 8 + y 1) (hw : w.val = y 3) :
    (outsAt0 m c t).2 y = confAt m c b h w := by
  obtain rfl : w = y 3 := Fin.ext hw
  rw [Block.conf_block, column m c t (y 1) b h (y 3) hb hh]
  simp only [table m c t _ (y 3)]
  rfl

/-- The depths the region ends with. -/
theorem depth_array : (dats m 0 c).arrAt 4 (cfgs 0).N = fun i : S2x128x1x512.Idx => depthAt m c (i 0) (i 1) (i 3) := by
  refine (dats m 0 c).arrAt_eq_of_covers 4 _ (by decide +kernel) fun t hf y => ?_
  blk_simp
  rw [after0_4]
  refine depth_point m c t y _ _ _ ?_ ?_ ?_ <;> (blk_simp [idx t]; try omega)

/-- The confidences the region ends with. -/
theorem conf_array : (dats m 0 c).arrAt 5 (cfgs 0).N = fun i : S2x128x1x512.Idx => confAt m c (i 0) (i 1) (i 3) := by
  refine (dats m 0 c).arrAt_eq_of_covers 5 _ (by decide +kernel) fun t hf y => ?_
  blk_simp
  rw [after0_5]
  refine conf_point m c t y _ _ _ ?_ ?_ ?_ <;> (blk_simp [idx t]; try omega)

end Cert.KernelIdeal.Arrays
end
-- ==== Proof.KernelRun.lean ====
/- The kernel's run: what its two results hold, index by index, from the arguments. -/
module

public import proofs.«01_k».proof.Proof.Arrays
public import Idealize.ShloMosaic.Lib.Claim

@[expose] public section

set_option maxRecDepth 16384

noncomputable section

namespace Cert.KernelIdeal.Arrays

open Cert.KernelIdeal Cert.KernelIdeal.Gen Idealize.ShloMosaic Idealize.ShloMosaic.TcCoe Idealize.SL.Sem

variable (m : (ℓ : Loc nD τ sig) → Buf (Elt Ideal) ℓ)

/-- The depth result after the region's array is laid out channel first. -/
theorem depth_tail (c : Dev nD) : Pipeline.afterTail₀ cfgs (dats m) 0 (V0 m) [hostOps1] c main_v21
    = fun i : S2x1x128x512.Idx => depthAt m c (i 0) (i 2) (i 3) := by
  unfold Pipeline.afterTail₀
  simp only [hostOps1, List.flatten_cons, List.flatten_nil, List.append_nil]
  after_results_simp
  rw [show Pipeline.withArrays (cfgs 0).spec c (V0 m c) (fun w => (dats m 0 c).arrAt w (cfgs 0).N) (Proc.devRef .tc main_v20_0) = _
    from (Pipeline.Dat.withArrays_arrAt (dats m 0 c) (by decide +kernel) (V0 m c) (A_eq m c) 4).trans (depth_array m c)]
  funext i
  pointwise

/-- The confidence result after the region's array is laid out channel first. -/
theorem conf_tail (c : Dev nD) : Pipeline.afterTail₀ cfgs (dats m) 0 (V0 m) [hostOps1] c main_v22
    = fun i : S2x1x128x512.Idx => confAt m c (i 0) (i 2) (i 3) := by
  unfold Pipeline.afterTail₀
  simp only [hostOps1, List.flatten_cons, List.flatten_nil, List.append_nil]
  after_results_simp
  rw [show Pipeline.withArrays (cfgs 0).spec c (V0 m c) (fun w => (dats m 0 c).arrAt w (cfgs 0).N) (Proc.devRef .tc main_v20_1) = _
    from (Pipeline.Dat.withArrays_arrAt (dats m 0 c) (by decide +kernel) (V0 m c) (A_eq m c) 5).trans (conf_array m c)]
  funext i
  pointwise

/-- The kernel's run: both results from the arguments, and the arguments unchanged. -/
theorem run_values (g : Dev nD → PrngReg) :
    θ_run (defs (F := Ideal)) (onTc (τ := τ) (main (F := Ideal))) ⟨m, fun _ => 0, g⟩ fun r => ∀ c : Dev nD,
      r.2.mem (c.tc.loc main_v21) = (fun i : S2x1x128x512.Idx => depthAt m c (i 0) (i 2) (i 3))
      ∧ r.2.mem (c.tc.loc main_v22) = (fun i : S2x1x128x512.Idx => confAt m c (i 0) (i 2) (i 3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) := by
  refine (θ_run defs _ _).mono (fun r h c => ⟨?_, ?_, h.1 c⟩) (θ_run_and (unchanged m g) (run_main m g))
  · exact ((h.2 c).2 main_v21 (by decide +kernel)).trans (depth_tail m c)
  · exact ((h.2 c).2 main_v22 (by decide +kernel)).trans (conf_tail m c)

end Cert.KernelIdeal.Arrays
end
-- ==== Proof.RefAt.lean ====
/- The reference's two results at an index: its run's terms cut into the scores, the exponentials, the masked softmax and
   the two results, each read at an index once. -/
module

public import proofs.«01_k».proof.Proof.Gen.ReferenceIdeal.Run
public import proofs.«01_k».proof.Proof.Softmax
public import Idealize.ShloMosaic.Lib.Pipeline.ValueKit
public import Idealize.ShloMosaic.Lib.Claim
public import Idealize.ShloMosaic.Lib.Pointwise

@[expose] public section

set_option maxRecDepth 16384

noncomputable section

namespace Cert.ReferenceIdeal.At

open Cert.ReferenceIdeal Cert.ReferenceIdeal.Gen Cert.ReferenceIdeal.Value Idealize.ShloMosaic Idealize.ShloMosaic.TcCoe Idealize.SL.Sem

/-- The scores: the correlation over the root of the number of channels, over the temperature. -/
def scores (A B : FVec Ideal S2x256x128x512 .f32) : FVec Ideal S2x128x512x512 .f32 :=
  Host.divf (Host.divf (Host.dotGeneral dot_S2x256x128x512_S2x256x128x512_S2x128x512x512_1_1_3_3_02_02 none A B)
      (broadcastInDim S2x128x512x512 ![] bcast_S_S2x128x512x512 (constant S_ .f32 0x41800000#32)))
    (broadcastInDim S2x128x512x512 ![] bcast_S_S2x128x512x512 (constant S_ .f32 0x3F800000#32))

/-- Each column's greatest entry. -/
def greatest (P : FVec Ideal S2x128x512x512 .f32) : FVec Ideal S2x128x512 .f32 :=
  Host.reduce FloatOps.maximumf P (constant S_ .f32 0xFF800000#32) reducesTo_S2x128x512x512_S2x128x512_d3 h_S_

/-- A number per column, kept above the bound that every maximum starts from. -/
def above (G : FVec Ideal S2x128x512 .f32) : FVec Ideal S2x128x512 .f32 :=
  maximumf (broadcastInDim S2x128x512 ![] bcast_S_S2x128x512 (constant S_ .f32 0xFF800000#32)) G

/-- The exponentials of the scores less a number per column. -/
def exps (L : FVec Ideal S2x128x512x512 .f32) (T : FVec Ideal S2x128x512 .f32) : FVec Ideal S2x128x512x512 .f32 :=
  Host.exp (subf L (broadcastInDim S2x128x512x512 ![0, 1, 2, 3] bcast_S2x128x512x1_S2x128x512x512_0_1_2_3
    (broadcastInDim S2x128x512x1 ![0, 1, 2] bcast_S2x128x512_S2x128x512x1_0_1_2 T)))

/-- The positions along the width. -/
def places : FVec Ideal S512 .f32 := sitofp .f32 (iotaInDim S512 32 0)

/-- The softmax of each column, zero above the diagonal. -/
def weights (E : FVec Ideal S2x128x512x512 .f32) : FVec Ideal S2x128x512x512 .f32 :=
  mulf (Host.divf E (broadcastInDim S2x128x512x512 ![0, 1, 2, 3] bcast_S2x128x512x1_S2x128x512x512_0_1_2_3
      (broadcastInDim S2x128x512x1 ![0, 1, 2] bcast_S2x128x512_S2x128x512x1_0_1_2
        (Host.reduceAdd E (constant S_ .f32 0x00000000#32) reducesTo_S2x128x512x512_S2x128x512_d3 h_S_))))
    (broadcastInDim S2x128x512x512 ![0, 1, 2, 3] bcast_S1x1x512x512_S2x128x512x512_0_1_2_3
      (broadcastInDim S1x1x512x512 ![2, 3] bcast_S512x512_S1x1x512x512_2_3
        (uitofp .f32 (cmpf .ole
          (broadcastInDim S512x512 ![0, 1] bcast_S1x512_S512x512_0_1 (broadcastInDim S1x512 ![1] bcast_S512_S1x512_1 places))
          (broadcastInDim S512x512 ![0, 1] bcast_S512x1_S512x512_0_1 (broadcastInDim S512x1 ![0] bcast_S512_S512x1_0 places))))))

/-- The confidence: a number per column, laid out with one channel. -/
def confs (G : FVec Ideal S2x128x512 .f32) : FVec Ideal S2x1x128x512 .f32 :=
  broadcastInDim S2x1x128x512 ![0, 2, 3] bcast_S2x128x512_S2x1x128x512_0_2_3 G

/-- The disparity: how far each column's mean position lies from its own, over the width, at least the least disparity. -/
def disps (P : FVec Ideal S2x128x512x512 .f32) : FVec Ideal S2x1x128x512 .f32 :=
  maximumf (broadcastInDim S2x1x128x512 ![] bcast_S_S2x1x128x512 (constant S_ .f32 0x3DCCCCCD#32))
    (Host.divf (Host.absf (subf
        (broadcastInDim S2x1x128x512 ![0, 2, 3] bcast_S2x128x512_S2x1x128x512_0_2_3
          (Host.reduceAdd (mulf P
              (broadcastInDim S2x128x512x512 ![0, 1, 2, 3] bcast_S1x1x1x512_S2x128x512x512_0_1_2_3
                (broadcastInDim S1x1x1x512 ![3] bcast_S512_S1x1x1x512_3 places)))
            (constant S_ .f32 0x00000000#32) reducesTo_S2x128x512x512_S2x128x512_d3 h_S_))
        (broadcastInDim S2x1x128x512 ![0, 1, 2, 3] bcast_S1x1x1x512_S2x1x128x512_0_1_2_3
          (broadcastInDim S1x1x1x512 ![3] bcast_S512_S1x1x1x512_3 places))))
      (broadcastInDim S2x1x128x512 ![] bcast_S_S2x1x128x512 (constant S_ .f32 0x44000000#32)))

/-- The displacement between the two camera positions. -/
def shift (p q : FVec Ideal S2x4x4 .f32) : FVec Ideal S2x3 .f32 :=
  subf (shapeCast _ (extractStridedSlice S2x3x1 ![0, 0, 3] p slices_S2x4x4_S2x3x1_0_0_3) shapeCasts_S2x3x1_S2x3)
    (shapeCast _ (extractStridedSlice S2x3x1 ![0, 0, 3] q slices_S2x4x4_S2x3x1_0_0_3) shapeCasts_S2x3x1_S2x3)

/-- The focal length times the baseline, over the batch. -/
def scales (f : FVec Ideal S2x3x3 .f32) (p q : FVec Ideal S2x4x4 .f32) : FVec Ideal S2x1x1x1 .f32 :=
  mulf (broadcastInDim S2x1x1x1 ![0] bcast_S2_S2x1x1x1_0
      (shapeCast _ (extractStridedSlice S2x1x1 ![0, 0, 0] f slices_S2x3x3_S2x1x1_0_0_0) shapeCasts_S2x1x1_S2))
    (broadcastInDim S2x1x1x1 ![0] bcast_S2_S2x1x1x1_0
      (Host.sqrt (Host.reduceAdd (mulf (shift p q) (shift p q)) (constant S_ .f32 0x00000000#32) reducesTo_S2x3_S2_d1 h_S_)))

/-- The scores at an index. -/
theorem scores_at (A B : FVec Ideal S2x256x128x512 .f32) (j : S2x128x512x512.Idx) :
    scores A B j = Softmax.score (fun k => A (ix4 (j 0) k (j 1) (j 2))) (fun k => B (ix4 (j 0) k (j 1) (j 3))) := by
  pointwise [scores]
  rfl

/-- Each column's greatest entry at an index. -/
theorem greatest_at (P : FVec Ideal S2x128x512x512 .f32) (j : S2x128x512.Idx) :
    greatest P j
      = Finset.fold max (Ideal.ofBits FTy.f32 0xFF800000#32) (fun v => P (ix4 (j 0) (j 1) (j 2) v)) Finset.univ := by
  pointwise [greatest]

/-- The bounded number at an index. -/
theorem above_at (G : FVec Ideal S2x128x512 .f32) (j : S2x128x512.Idx) :
    above G j = max (Ideal.ofBits FTy.f32 0xFF800000#32) (G j) := by
  pointwise [above]

/-- The exponentials at an index. -/
theorem exps_at (L : FVec Ideal S2x128x512x512 .f32) (T : FVec Ideal S2x128x512 .f32) (j : S2x128x512x512.Idx) :
    exps L T j = Ideal.exp (L j - T (ix3 (j 0) (j 1) (j 2))) := by
  idx_vars j
  pointwise [exps]

/-- The weights at an index. -/
theorem weights_at (E : FVec Ideal S2x128x512x512 .f32) (j : S2x128x512x512.Idx) :
    weights E j = Ideal.div (E j) (∑ v, E (ix4 (j 0) (j 1) (j 2) v)) * Softmax.tri (j 3) (j 2) := by
  idx_vars j
  pointwise [weights, places]
  rfl

/-- The confidence at an index. -/
theorem confs_at (G : FVec Ideal S2x128x512 .f32) (j : S2x1x128x512.Idx) :
    confs G j = G (ix3 (j 0) (j 2) (j 3)) := by
  idx_vars j
  pointwise [confs]

/-- The disparity at an index. -/
theorem disps_at (P : FVec Ideal S2x128x512x512 .f32) (j : S2x1x128x512.Idx) :
    disps P j = max (Ideal.ofBits FTy.f32 0x3DCCCCCD#32)
      (Ideal.div (FloatOps.absf (F := Ideal) (φ := FTy.f32)
          ((∑ v : Fin 512, P (ix4 (j 0) (j 2) (j 3) v) * Softmax.pos v) - Softmax.pos (j 3)))
        (Ideal.ofBits FTy.f32 0x44000000#32)) := by
  pointwise [disps, places]
  rfl

/-- The scale at an index. -/
theorem scales_at (f : FVec Ideal S2x3x3 .f32) (p q : FVec Ideal S2x4x4 .f32) (j : S2x1x1x1.Idx) :
    scales f p q j = Softmax.focal (f (ix3 (j 0) 0 0)) (fun x => p (ix3 (j 0) ⟨x, by omega⟩ 3)) (fun x => q (ix3 (j 0) ⟨x, by omega⟩ 3)) := by
  pointwise [scales, shift]
  rfl

/-- The depth: the scale over the disparity. -/
def depths (S : FVec Ideal S2x1x1x1 .f32) (D : FVec Ideal S2x1x128x512 .f32) : FVec Ideal S2x1x128x512 .f32 :=
  Host.divf (broadcastInDim S2x1x128x512 ![0, 1, 2, 3] bcast_S2x1x1x1_S2x1x128x512_0_1_2_3 S) D

/-- The depth at an index. -/
theorem depths_at (S : FVec Ideal S2x1x1x1 .f32) (D : FVec Ideal S2x1x128x512 .f32) (j : S2x1x128x512.Idx) :
    depths S D j = Ideal.div (S (ix4 (j 0) 0 0 0)) (D j) := by
  idx_vars j
  pointwise [depths]

end Cert.ReferenceIdeal.At

end
-- ==== Proof.RefResult.lean ====
/- The reference's two results at an index, from its parts. -/
module

public import proofs.«01_k».proof.Proof.RefAt
public import Idealize.ShloMosaic.Lib.Pipeline.ValueKit
public import Idealize.ShloMosaic.Lib.Claim
public import Idealize.ShloMosaic.Lib.Pointwise

@[expose] public section

set_option maxRecDepth 16384

noncomputable section

namespace Cert.ReferenceIdeal.At

open Cert.ReferenceIdeal Cert.ReferenceIdeal.Gen Cert.ReferenceIdeal.Value Idealize.ShloMosaic Idealize.ShloMosaic.TcCoe Idealize.SL.Sem

/-- The masked softmax of the scores. -/
def softmax (A B : FVec Ideal S2x256x128x512 .f32) : FVec Ideal S2x128x512x512 .f32 :=
  weights (exps (scores A B) (above (greatest (scores A B))))

/-- The masked softmax of the scores at an index. -/
theorem weights_of_scores (A B : FVec Ideal S2x256x128x512 .f32) (b : Fin 2) (h : Fin 128) (w v : Fin 512) :
    softmax A B (ix4 b h w v)
      = Softmax.prob (fun u => Softmax.score (fun k => A (ix4 b k h w)) (fun k => B (ix4 b k h u))) v * Softmax.tri v w := by
  rw [softmax, weights_at]
  simp only [exps_at, above_at, greatest_at, scores_at]
  rfl

/-- The disparity at an index given by its coordinates. -/
theorem disps_ix (P : FVec Ideal S2x128x512x512 .f32) (b : Fin 2) (o : Fin 1) (h : Fin 128) (w : Fin 512) :
    disps P (ix4 b o h w) = max (Ideal.ofBits FTy.f32 0x3DCCCCCD#32)
      (Ideal.div (FloatOps.absf (F := Ideal) (φ := FTy.f32)
          ((∑ v : Fin 512, P (ix4 b h w v) * Softmax.pos v) - Softmax.pos w))
        (Ideal.ofBits FTy.f32 0x44000000#32)) :=
  disps_at P _

/-- The reference's depth at an index. -/
theorem depth_at (A B : FVec Ideal S2x256x128x512 .f32) (f : FVec Ideal S2x3x3 .f32) (p q : FVec Ideal S2x4x4 .f32)
    (b : Fin 2) (o : Fin 1) (h : Fin 128) (w : Fin 512) :
    depths (scales f p q) (disps (softmax A B)) (ix4 b o h w)
      = Softmax.refDepth
          (Softmax.focal (f (ix3 b 0 0)) (fun x => p (ix3 b ⟨x, by omega⟩ 3)) (fun x => q (ix3 b ⟨x, by omega⟩ 3)))
          (fun v => Softmax.score (fun k => A (ix4 b k h w)) (fun k => B (ix4 b k h v))) w := by
  rw [depths_at, disps_ix, scales_at]
  simp only [weights_of_scores]
  rfl

/-- A column's greatest entry at an index given by its coordinates. -/
theorem greatest_ix (P : FVec Ideal S2x128x512x512 .f32) (b : Fin 2) (h : Fin 128) (w : Fin 512) :
    greatest P (ix3 b h w)
      = Finset.fold max (Ideal.ofBits FTy.f32 0xFF800000#32) (fun v => P (ix4 b h w v)) Finset.univ :=
  greatest_at P _

/-- The reference's confidence at an index. -/
theorem conf_at (A B : FVec Ideal S2x256x128x512 .f32) (b : Fin 2) (o : Fin 1) (h : Fin 128) (w : Fin 512) :
    confs (greatest (softmax A B)) (ix4 b o h w)
      = Softmax.refConf (fun v => Softmax.score (fun k => A (ix4 b k h w)) (fun k => B (ix4 b k h v))) w := by
  refine (confs_at _ _).trans ((greatest_ix _ b h w).trans ?_)
  simp only [weights_of_scores]
  rfl

variable (m : (ℓ : Loc nD τ sig) → Buf (Elt Ideal) ℓ) (c : Dev nD)

/-- The depth the reference's run ends with, in these parts. -/
theorem depth_parts : res_main_v52 (F := Ideal) m c
    = depths (scales (m (c.tc.loc main_arg2)) (m (c.tc.loc main_arg4)) (m (c.tc.loc main_arg5)))
        (disps (softmax (m (c.tc.loc main_arg0)) (m (c.tc.loc main_arg1)))) := by
  unfold res_main_v52 depths
  refine congrArg₂ Host.divf ?_ ?_
  · rfl
  · unfold disps
    refine congrArg₂ maximumf ?_ (congrArg₂ Host.divf (congrArg Host.absf (congrArg₂ subf ?_ ?_)) ?_)
    · rfl
    · refine congrArg (fun v : FVec Ideal S2x128x512 .f32 => broadcastInDim S2x1x128x512 ![0, 2, 3] bcast_S2x128x512_S2x1x128x512_0_2_3 v) ?_
      refine congrArg (fun v : FVec Ideal S2x128x512x512 .f32 => Host.reduceAdd v (constant S_ .f32 0x00000000#32) reducesTo_S2x128x512x512_S2x128x512_d3 h_S_) ?_
      refine congrArg₂ mulf (congrArg₂ mulf (congrArg₂ Host.divf (congrArg Host.exp ?_) ?_) ?_) ?_
      · unfold scores above greatest
        rfl
      · unfold exps scores above greatest
        rfl
      · rfl
      · rfl
    · rfl
    · rfl

/-- The reference's run: both results in these parts, and the arguments unchanged. -/
theorem run_parts (ρ : Dev nD → PrngReg) :
    θ_run defs (onTc (τ := τ) (main (F := Ideal))) ⟨m, fun _ => 0, ρ⟩ fun r => ∀ c : Dev nD,
      r.2.mem (c.tc.loc main_v52) = depths (scales (m (c.tc.loc main_arg2)) (m (c.tc.loc main_arg4)) (m (c.tc.loc main_arg5)))
        (disps (softmax (m (c.tc.loc main_arg0)) (m (c.tc.loc main_arg1))))
      ∧ r.2.mem (c.tc.loc main_v32) = confs (greatest (softmax (m (c.tc.loc main_arg0)) (m (c.tc.loc main_arg1))))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) := by
  refine (θ_run defs _ _).mono (fun r h c => ⟨(h c).1.trans (depth_parts m c), (h c).2.1.trans ?_, (h c).2.2⟩)
    (run (F := Ideal) m ρ)
  unfold confs softmax weights exps scores above greatest places
  rfl

end Cert.ReferenceIdeal.At

end
-- ==== Proof.Finite.lean ====
/- The precondition read at an index: every feature of both images is a real number. -/
module

public import proofs.«01_k».proof.Defs
public import Idealize.ShloMosaic.Lib.Claim
public import Idealize.ShloMosaic.Lib.Pointwise

@[expose] public section

set_option maxRecDepth 16384

noncomputable section

namespace Cert.Pre_finite

open Idealize.ShloMosaic Idealize.SL.Sem

/-- The precondition's side condition. -/
theorem facts : Facts := ⟨by decide⟩

variable [Facts]

/-- A number whose absolute value is below the infinity is a real. -/
theorem real_of_abs (x : EReal) (h : FloatOps.absf (F := Ideal) (φ := .f32) x < Ideal.ofBits .f32 0x7F800000#32) : ∃ r : ℝ, x = r := by
  rw [Ideal.absf_def] at h
  induction x with
  | coe r => exact ⟨r, rfl⟩
  | bot => simp at h
  | top => simp at h

/-- Two conditions whose conjunction is one both hold. -/
theorem both (p q : Prop) [Decidable p] [Decidable q]
    (h : IntOp.andi (BitVec.ofBool (decide p)) (BitVec.ofBool (decide q)) = 1#1) : p ∧ q := by
  by_cases hp : p <;> by_cases hq : q <;> simp [hp, hq, IntOp.andi] at h ⊢

/-- Where the precondition holds, both features are reals. -/
theorem fn_at (A B : FVec Ideal S2x256x128x512 .f32) (C D : FVec Ideal S2x3x3 .f32) (P Q : FVec Ideal S2x4x4 .f32)
    (h : fn (F := Ideal) A B C D P Q = fun _ => 1#1) (i : S2x256x128x512.Idx) :
    (∃ r : ℝ, (A i : EReal) = r) ∧ ∃ r : ℝ, (B i : EReal) = r := by
  have h := congrFun h i
  revert h
  pointwise [fn]
  exact fun h => ⟨real_of_abs _ (both _ _ h).1, real_of_abs _ (both _ _ h).2⟩

end Cert.Pre_finite
end
-- ==== Proof.Equal.lean ====
/- The two programs' results agree wherever the features are finite. -/
module

public import proofs.«01_k».proof.Proof.KernelRun
public import proofs.«01_k».proof.Proof.RefResult
public import proofs.«01_k».proof.Proof.Finite

@[expose] public section

set_option maxRecDepth 16384

noncomputable section

namespace Cert.Equal

open Idealize.ShloMosaic Idealize.ShloMosaic.TcCoe Idealize.SL.Sem

attribute [local instance] Cert.Pre_finite.facts

variable (m : (ℓ : Loc Cert.KernelIdeal.nD Cert.KernelIdeal.τ Cert.KernelIdeal.sig) → Buf (Elt Ideal) ℓ)
  (c : Dev Cert.KernelIdeal.nD)

/-- The features of both images are real numbers. -/
theorem features (hpre : Cert.Pre_KernelIdeal_finite m) :
    (∃ a : Cert.KernelIdeal.S2x256x128x512.Idx → ℝ, ∀ i, m (c.tc.loc Cert.KernelIdeal.main_arg0) i = ((a i : ℝ) : EReal))
      ∧ ∃ b : Cert.KernelIdeal.S2x256x128x512.Idx → ℝ, ∀ i, m (c.tc.loc Cert.KernelIdeal.main_arg1) i = ((b i : ℝ) : EReal) := by
  have h := fun i => Cert.Pre_finite.fn_at _ _ _ _ _ _ (hpre c) i
  choose a ha using fun i => (h i).1
  choose b hb using fun i => (h i).2
  exact ⟨⟨a, ha⟩, b, hb⟩

/-- The depths agree at every pixel. -/
theorem depth_same (hpre : Cert.Pre_KernelIdeal_finite m) (b : Fin 2) (h : Fin 128) (w : Fin 512) :
    Cert.KernelIdeal.Arrays.depthAt m c b h w
      = Softmax.refDepth (Softmax.focal (m (c.tc.loc Cert.KernelIdeal.main_arg2) (ix3 b 0 0))
          (fun x => m (c.tc.loc Cert.KernelIdeal.main_arg4) (ix3 b ⟨x, by omega⟩ 3))
          (fun x => m (c.tc.loc Cert.KernelIdeal.main_arg5) (ix3 b ⟨x, by omega⟩ 3)))
        (fun v => Softmax.score (fun k => m (c.tc.loc Cert.KernelIdeal.main_arg0) (ix4 b k h w))
          (fun k => m (c.tc.loc Cert.KernelIdeal.main_arg1) (ix4 b k h v))) w := by
  obtain ⟨⟨x, hx⟩, y, hy⟩ := features m c hpre
  unfold Cert.KernelIdeal.Arrays.depthAt
  simp only [hx, hy]
  exact Softmax.depth_of_features _ (fun k => x (ix4 b k h w)) (fun v k => y (ix4 b k h v)) w

/-- The confidences agree at every pixel. -/
theorem conf_same (hpre : Cert.Pre_KernelIdeal_finite m) (b : Fin 2) (h : Fin 128) (w : Fin 512) :
    Cert.KernelIdeal.Arrays.confAt m c b h w
      = Softmax.refConf (fun v => Softmax.score (fun k => m (c.tc.loc Cert.KernelIdeal.main_arg0) (ix4 b k h w))
          (fun k => m (c.tc.loc Cert.KernelIdeal.main_arg1) (ix4 b k h v))) w := by
  obtain ⟨⟨x, hx⟩, y, hy⟩ := features m c hpre
  unfold Cert.KernelIdeal.Arrays.confAt
  simp only [hx, hy]
  exact Softmax.conf_of_features (fun k => x (ix4 b k h w)) (fun v k => y (ix4 b k h v)) w

/-- The kernel and the reference end with equal depths and equal confidences. -/
theorem algebraic : Cert.algebraic_KernelIdeal_ReferenceIdeal_pre_finite := by
  intro m g m' g' hpre hagree
  refine ⟨_, _, Cert.KernelIdeal.Arrays.run_values m g, (θ_run Cert.ReferenceIdeal.defs _ _).mono
    (fun r h c => ⟨(h c).1.trans ?_, (h c).2.1.trans ?_, (h c).2.2⟩) (Cert.ReferenceIdeal.At.run_parts m' g')⟩
  · obtain ⟨h0, h1, h2, h3, h4, h5⟩ := hagree c
    rw [h0, h1, h2, h4, h5]
    funext i
    rw [eq_ix4 i]
    exact (Cert.ReferenceIdeal.At.depth_at _ _ _ _ _ (i 0) (i 1) (i 2) (i 3)).trans (depth_same m c hpre (i 0) (i 2) (i 3)).symm
  · obtain ⟨h0, h1, h2, h3, h4, h5⟩ := hagree c
    rw [h0, h1]
    funext i
    rw [eq_ix4 i]
    exact (Cert.ReferenceIdeal.At.conf_at _ _ (i 0) (i 1) (i 2) (i 3)).trans (conf_same m c hpre (i 0) (i 2) (i 3)).symm

end Cert.Equal
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Equal
public import Idealize.ShloMosaic.Lib.Quiescent

@[expose] public section

noncomputable section

namespace Cert.Proof

open Idealize.ShloMosaic Idealize.SL.Sem Cert.Kernel

/-- The reference leaves its arguments and every counter as they were. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Every claim of the certificate. -/
theorem claim : Cert.Claim :=
  ⟨Cert.Kernel.Gen.facts, Cert.KernelIdeal.Gen.facts, Cert.ReferenceIdeal.Gen.facts, Cert.Pre_finite.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    IdealRules.named_const.statement Cert.KernelIdeal.κ "log2e_scale" .f32 0x3DB8AA3B#32
      (((16 * (Real.log 2))⁻¹ : ℝ) : EReal) rfl,
    Cert.Equal.algebraic⟩

end Cert.Proof

end
